-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256x11x11 : Shape := ⟨4, ![1024, 256, 11, 11]⟩
abbrev S11x11x1024x256 : Shape := ⟨4, ![11, 11, 1024, 256]⟩
abbrev S121x1024x256 : Shape := ⟨3, ![121, 1024, 256]⟩
abbrev S10x1024x256 : Shape := ⟨3, ![10, 1024, 256]⟩
abbrev S5 : Shape := ⟨1, ![5]⟩
abbrev S1 : Shape := ⟨1, ![1]⟩
abbrev S_ : Shape := ⟨0, ![]⟩
abbrev S1x1024x256 : Shape := ⟨3, ![1, 1024, 256]⟩
abbrev S1x1x1024x256 : Shape := ⟨4, ![1, 1, 1024, 256]⟩
abbrev S2x1024x256 : Shape := ⟨3, ![2, 1024, 256]⟩
abbrev S1x2x1024x256 : Shape := ⟨4, ![1, 2, 1024, 256]⟩
abbrev S2x1x1024x256 : Shape := ⟨4, ![2, 1, 1024, 256]⟩
abbrev S4x1024x256 : Shape := ⟨3, ![4, 1024, 256]⟩
abbrev S1x4x1024x256 : Shape := ⟨4, ![1, 4, 1024, 256]⟩
abbrev S4x1x1024x256 : Shape := ⟨4, ![4, 1, 1024, 256]⟩
abbrev S6x1024x256 : Shape := ⟨3, ![6, 1024, 256]⟩
abbrev S1x6x1024x256 : Shape := ⟨4, ![1, 6, 1024, 256]⟩
abbrev S6x1x1024x256 : Shape := ⟨4, ![6, 1, 1024, 256]⟩
abbrev S8x1024x256 : Shape := ⟨3, ![8, 1024, 256]⟩
abbrev S1x8x1024x256 : Shape := ⟨4, ![1, 8, 1024, 256]⟩
abbrev S8x1x1024x256 : Shape := ⟨4, ![8, 1, 1024, 256]⟩
abbrev S1x10x1024x256 : Shape := ⟨4, ![1, 10, 1024, 256]⟩
abbrev S10x1x1024x256 : Shape := ⟨4, ![10, 1, 1024, 256]⟩
abbrev S1024x121x256 : Shape := ⟨3, ![1024, 121, 256]⟩

abbrev nBuf : Space → Nat
  | .hbm => 4
  | .vmem => 5
  | .smem => 0
  | _ => 0

abbrev bufTy : (tb : Table) → Fin (tcTables nBuf tb) → BufTy
  | .hbm, ⟨0, _⟩ => ⟨S1024x256x11x11, .f32⟩
  | .hbm, ⟨1, _⟩ => ⟨S11x11x1024x256, .f32⟩
  | .hbm, ⟨2, _⟩ => ⟨S121x1024x256, .f32⟩
  | .hbm, ⟨3, _⟩ => ⟨S1024x121x256, .f32⟩
  | .local _ .vmem, ⟨0, _⟩ => ⟨S10x1024x256, .f32⟩
  | .local _ .vmem, ⟨1, _⟩ => ⟨S10x1024x256, .f32⟩
  | .local _ .vmem, ⟨2, _⟩ => ⟨S10x1024x256, .f32⟩
  | .local _ .vmem, ⟨3, _⟩ => ⟨S10x1024x256, .f32⟩
  | .local _ .vmem, ⟨4, _⟩ => ⟨S10x1024x256, .f32⟩
  | _, _ => ⟨S1024x256x11x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩

abbrev nD : Nat := 1
abbrev τ : Topo := Topo.v7x

variable {F : FTy → Type} [FloatOps F]

abbrev grid0 : Pipeline.Grid := ⟨1, ![1], ![false]⟩
-- ==== ReferenceIdeal.lean ====
abbrev S1024x256x11x11 : Shape := ⟨4, ![1024, 256, 11, 11]⟩
abbrev S1024x11x11x256 : Shape := ⟨4, ![1024, 11, 11, 256]⟩
abbrev S_ : Shape := ⟨0, ![]⟩
abbrev S1024x121x256 : Shape := ⟨3, ![1024, 121, 256]⟩
abbrev S1024x1x1x256 : Shape := ⟨4, ![1024, 1, 1, 256]⟩
abbrev S1024x256 : Shape := ⟨2, ![1024, 256]⟩
abbrev S1 : Shape := ⟨1, ![1]⟩
abbrev S1024x1x2x256 : Shape := ⟨4, ![1024, 1, 2, 256]⟩
abbrev S1024x2x256 : Shape := ⟨3, ![1024, 2, 256]⟩
abbrev S1024x2x1x256 : Shape := ⟨4, ![1024, 2, 1, 256]⟩
abbrev S1024x1x4x256 : Shape := ⟨4, ![1024, 1, 4, 256]⟩
abbrev S1024x4x256 : Shape := ⟨3, ![1024, 4, 256]⟩
abbrev S1024x4x1x256 : Shape := ⟨4, ![1024, 4, 1, 256]⟩
abbrev S1024x1x6x256 : Shape := ⟨4, ![1024, 1, 6, 256]⟩
abbrev S1024x6x256 : Shape := ⟨3, ![1024, 6, 256]⟩
abbrev S1024x6x1x256 : Shape := ⟨4, ![1024, 6, 1, 256]⟩
abbrev S1024x1x8x256 : Shape := ⟨4, ![1024, 1, 8, 256]⟩
abbrev S1024x8x256 : Shape := ⟨3, ![1024, 8, 256]⟩
abbrev S1024x8x1x256 : Shape := ⟨4, ![1024, 8, 1, 256]⟩
abbrev S1024x1x10x256 : Shape := ⟨4, ![1024, 1, 10, 256]⟩
abbrev S1024x10x256 : Shape := ⟨3, ![1024, 10, 256]⟩
abbrev S1024x10x1x256 : Shape := ⟨4, ![1024, 10, 1, 256]⟩

abbrev nBuf : Space → Nat
  | .hbm => 109
  | .vmem => 0
  | .smem => 0
  | _ => 0

abbrev bufTy : (tb : Table) → Fin (tcTables nBuf tb) → BufTy
  | .hbm, ⟨0, _⟩ => ⟨S1024x256x11x11, .f32⟩
  | .hbm, ⟨1, _⟩ => ⟨S1024x11x11x256, .f32⟩
  | .hbm, ⟨2, _⟩ => ⟨S_, .f32⟩
  | .hbm, ⟨3, _⟩ => ⟨S1024x121x256, .f32⟩
  | .hbm, ⟨4, _⟩ => ⟨S1024x1x1x256, .f32⟩
  | .hbm, ⟨5, _⟩ => ⟨S1024x256, .f32⟩
  | .hbm, ⟨6, _⟩ => ⟨S_, .i32⟩
  | .hbm, ⟨7, _⟩ => ⟨S1, .i32⟩
  | .hbm, ⟨8, _⟩ => ⟨S1024x121x256, .f32⟩
  | .hbm, ⟨9, _⟩ => ⟨S1024x1x2x256, .f32⟩
  | .hbm, ⟨10, _⟩ => ⟨S1024x2x256, .f32⟩
  | .hbm, ⟨11, _⟩ => ⟨S_, .i32⟩
  | .hbm, ⟨12, _⟩ => ⟨S1, .i32⟩
  | .hbm, ⟨13, _⟩ => ⟨S1024x121x256, .f32⟩
  | .hbm, ⟨14, _⟩ => ⟨S1024x2x1x256, .f32⟩
  | .hbm, ⟨15, _⟩ => ⟨S1024x2x256, .f32⟩
  | .hbm, ⟨16, _⟩ => ⟨S_, .i32⟩
  | .hbm, ⟨17, _⟩ => ⟨S1, .i32⟩
  | .hbm, ⟨18, _⟩ => ⟨S1024x121x256, .f32⟩
  | .hbm, ⟨19, _⟩ => ⟨S1024x1x2x256, .f32⟩
  | .hbm, ⟨20, _⟩ => ⟨S1024x2x256, .f32⟩
  | .hbm, ⟨21, _⟩ => ⟨S_, .i32⟩
  | .hbm, ⟨22, _⟩ => ⟨S1, .i32⟩
  | .hbm, ⟨23, _⟩ => ⟨S1024x121x256, .f32⟩
  | .hbm, ⟨24, _⟩ => ⟨S1024x2x1x256, .f32⟩
  | .hbm, ⟨25, _⟩ => ⟨S1024x2x256, .f32⟩
  | .hbm, ⟨26, _⟩ => ⟨S_, .i32⟩
  | .hbm, ⟨27, _⟩ => ⟨S1, .i32⟩
  | .hbm, ⟨28, _⟩ => ⟨S1024x121x256, .f32⟩
  | .hbm, ⟨29, _⟩ => ⟨S1024x1x4x256, .f32⟩
  | .hbm, ⟨30, _⟩ => ⟨S1024x4x256, .f32⟩
  | .hbm, ⟨31, _⟩ => ⟨S_, .i32⟩
  | .hbm, ⟨32, _⟩ => ⟨S1, .i32⟩
  | .hbm, ⟨33, _⟩ => ⟨S1024x121x256, .f32⟩
  | .hbm, ⟨34, _⟩ => ⟨S1024x4x1x256, .f32⟩
  | .hbm, ⟨35, _⟩ => ⟨S1024x4x256, .f32⟩
  | .hbm, ⟨36, _⟩ => ⟨S_, .i32⟩
  | .hbm, ⟨37, _⟩ => ⟨S1, .i32⟩
  | .hbm, ⟨38, _⟩ => ⟨S1024x121x256, .f32⟩
  | .hbm, ⟨39, _⟩ => ⟨S1024x1x4x256, .f32⟩
  | .hbm, ⟨40, _⟩ => ⟨S1024x4x256, .f32⟩
  | .hbm, ⟨41, _⟩ => ⟨S_, .i32⟩
  | .hbm, ⟨42, _⟩ => ⟨S1, .i32⟩
  | .hbm, ⟨43, _⟩ => ⟨S1024x121x256, .f32⟩
  | .hbm, ⟨44, _⟩ => ⟨S1024x4x1x256, .f32⟩
  | .hbm, ⟨45, _⟩ => ⟨S1024x4x256, .f32⟩
  | .hbm, ⟨46, _⟩ => ⟨S_, .i32⟩
  | .hbm, ⟨47, _⟩ => ⟨S1, .i32⟩
  | .hbm, ⟨48, _⟩ => ⟨S1024x121x256, .f32⟩
  | .hbm, ⟨49, _⟩ => ⟨S1024x1x6x256, .f32⟩
  | .hbm, ⟨50, _⟩ => ⟨S1024x6x256, .f32⟩
  | .hbm, ⟨51, _⟩ => ⟨S_, .i32⟩
  | .hbm, ⟨52, _⟩ => ⟨S1, .i32⟩
  | .hbm, ⟨53, _⟩ => ⟨S1024x121x256, .f32⟩
  | .hbm, ⟨54, _⟩ => ⟨S1024x6x1x256, .f32⟩
  | .hbm, ⟨55, _⟩ => ⟨S1024x6x256, .f32⟩
  | .hbm, ⟨56, _⟩ => ⟨S_, .i32⟩
  | .hbm, ⟨57, _⟩ => ⟨S1, .i32⟩
  | .hbm, ⟨58, _⟩ => ⟨S1024x121x256, .f32⟩
  | .hbm, ⟨59, _⟩ => ⟨S1024x1x6x256, .f32⟩
  | .hbm, ⟨60, _⟩ => ⟨S1024x6x256, .f32⟩
  | .hbm, ⟨61, _⟩ => ⟨S_, .i32⟩
  | .hbm, ⟨62, _⟩ => ⟨S1, .i32⟩
  | .hbm, ⟨63, _⟩ => ⟨S1024x121x256, .f32⟩
  | .hbm, ⟨64, _⟩ => ⟨S1024x6x1x256, .f32⟩
  | .hbm, ⟨65, _⟩ => ⟨S1024x6x256, .f32⟩
  | .hbm, ⟨66, _⟩ => ⟨S_, .i32⟩
  | .hbm, ⟨67, _⟩ => ⟨S1, .i32⟩
  | .hbm, ⟨68, _⟩ => ⟨S1024x121x256, .f32⟩
  | .hbm, ⟨69, _⟩ => ⟨S1024x1x8x256, .f32⟩
  | .hbm, ⟨70, _⟩ => ⟨S1024x8x256, .f32⟩
  | .hbm, ⟨71, _⟩ => ⟨S_, .i32⟩
  | .hbm, ⟨72, _⟩ => ⟨S1, .i32⟩
  | .hbm, ⟨73, _⟩ => ⟨S1024x121x256, .f32⟩
  | .hbm, ⟨74, _⟩ => ⟨S1024x8x1x256, .f32⟩
  | .hbm, ⟨75, _⟩ => ⟨S1024x8x256, .f32⟩
  | .hbm, ⟨76, _⟩ => ⟨S_, .i32⟩
  | .hbm, ⟨77, _⟩ => ⟨S1, .i32⟩
  | .hbm, ⟨78, _⟩ => ⟨S1024x121x256, .f32⟩
  | .hbm, ⟨79, _⟩ => ⟨S1024x1x8x256, .f32⟩
  | .hbm, ⟨80, _⟩ => ⟨S1024x8x256, .f32⟩
  | .hbm, ⟨81, _⟩ => ⟨S_, .i32⟩
  | .hbm, ⟨82, _⟩ => ⟨S1, .i32⟩
  | .hbm, ⟨83, _⟩ => ⟨S1024x121x256, .f32⟩
  | .hbm, ⟨84, _⟩ => ⟨S1024x8x1x256, .f32⟩
  | .hbm, ⟨85, _⟩ => ⟨S1024x8x256, .f32⟩
  | .hbm, ⟨86, _⟩ => ⟨S_, .i32⟩
  | .hbm, ⟨87, _⟩ => ⟨S1, .i32⟩
  | .hbm, ⟨88, _⟩ => ⟨S1024x121x256, .f32⟩
  | .hbm, ⟨89, _⟩ => ⟨S1024x1x10x256, .f32⟩
  | .hbm, ⟨90, _⟩ => ⟨S1024x10x256, .f32⟩
  | .hbm, ⟨91, _⟩ => ⟨S_, .i32⟩
  | .hbm, ⟨92, _⟩ => ⟨S1, .i32⟩
  | .hbm, ⟨93, _⟩ => ⟨S1024x121x256, .f32⟩
  | .hbm, ⟨94, _⟩ => ⟨S1024x10x1x256, .f32⟩
  | .hbm, ⟨95, _⟩ => ⟨S1024x10x256, .f32⟩
  | .hbm, ⟨96, _⟩ => ⟨S_, .i32⟩
  | .hbm, ⟨97, _⟩ => ⟨S1, .i32⟩
  | .hbm, ⟨98, _⟩ => ⟨S1024x121x256, .f32⟩
  | .hbm, ⟨99, _⟩ => ⟨S1024x1x10x256, .f32⟩
  | .hbm, ⟨100, _⟩ => ⟨S1024x10x256, .f32⟩
  | .hbm, ⟨101, _⟩ => ⟨S_, .i32⟩
  | .hbm, ⟨102, _⟩ => ⟨S1, .i32⟩
  | .hbm, ⟨103, _⟩ => ⟨S1024x121x256, .f32⟩
  | .hbm, ⟨104, _⟩ => ⟨S1024x10x1x256, .f32⟩
  | .hbm, ⟨105, _⟩ => ⟨S1024x10x256, .f32⟩
  | .hbm, ⟨106, _⟩ => ⟨S_, .i32⟩
  | .hbm, ⟨107, _⟩ => ⟨S1, .i32⟩
  | .hbm, ⟨108, _⟩ => ⟨S1024x121x256, .f32⟩
  | _, _ => ⟨S1024x256x11x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_5 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_6 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_7 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_8 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_9 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_10 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c_11 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_c_12 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c_13 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_c_14 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_c_15 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_c_16 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_c_17 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_c_18 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_c_19 : Ref sig .tc := ⟨.hbm, 106, rfl⟩
abbrev main_v84 : Ref sig .tc := ⟨.hbm, 107, rfl⟩
abbrev main_v85 : Ref sig .tc := ⟨.hbm, 108, rfl⟩

abbrev nD : Nat := 1
abbrev τ : Topo := Topo.v7x

variable {F : FTy → Type} [FloatOps F]
-- ==== Proof.Spiral.lean ====
/-
  The spiral order of an 11 × 11 image. Position 0 is the centre (5, 5); around it lie five square rings, ring `i` with four sides of
  `2 (i + 1)` pixels each, taken in turn: the side above the square already taken (left to right), the side to its right (top to bottom), the
  side below (left to right), the side to its left (top to bottom).
-/
module

public import Idealize.ShloMosaic.Lib.ValueIdxCore
public import Idealize.ShloMosaic.Lib.Pipeline.Value

@[expose] public section

namespace Cert.Spiral

open Idealize.ShloMosaic Idealize.ShloMosaic.ValueIdx

variable {α : Type}

/-- The ring that spiral position `d` (other than the centre) lies on. -/
def ring (d : ℕ) : ℕ := if d < 9 then 0 else if d < 25 then 1 else if d < 49 then 2 else if d < 81 then 3 else 4

/-- How far position `d` lies into its ring, which starts at position `(2 i + 1)²`. -/
def into (d : ℕ) : ℕ := d - (2 * ring d + 1) ^ 2

/-- The side of its ring that position `d` lies on: 0 above, 1 right, 2 below, 3 left. -/
def side (d : ℕ) : ℕ := into d / (2 * (ring d + 1))

/-- How far position `d` lies along its side. -/
def along (d : ℕ) : ℕ := into d % (2 * (ring d + 1))

/-- The image row at spiral position `d`. -/
def row (d : ℕ) : ℕ :=
  if d = 0 then 5 else match side d with
  | 0 => 4 - ring d
  | 1 => 5 - ring d + along d
  | 2 => 6 + ring d
  | _ => 4 - ring d + along d

/-- The image column at spiral position `d`. -/
def col (d : ℕ) : ℕ :=
  if d = 0 then 5 else match side d with
  | 0 => 5 - ring d + along d
  | 1 => 6 + ring d
  | 2 => 4 - ring d + along d
  | _ => 4 - ring d

/-- The row at a spiral position is a row of the image. -/
theorem row_lt (d : Fin 121) : row d.val < 11 := by revert d; decide +kernel

/-- The column at a spiral position is a column of the image. -/
theorem col_lt (d : Fin 121) : col d.val < 11 := by revert d; decide +kernel

/-- An image stored pixel first, its pixels laid out in spiral order. -/
def gathered (x : (⟨4, ![11, 11, 1024, 256]⟩ : Shape).Idx → α) : (⟨3, ![121, 1024, 256]⟩ : Shape).Idx → α :=
  fun j => x (ix4 (⟨row (j 0).val, row_lt (j 0)⟩ : Fin 11) (⟨col (j 0).val, col_lt (j 0)⟩ : Fin 11) (j 1) (j 2))

/-- A batch of images stored batch, channel, row, column, as a batch of sequences of pixels in spiral order: batch, position, channel. -/
def spiral (x : (⟨4, ![1024, 256, 11, 11]⟩ : Shape).Idx → α) : (⟨3, ![1024, 121, 256]⟩ : Shape).Idx → α :=
  fun j => x (ix4 (j 0) (j 2) (⟨row (j 1).val, row_lt (j 1)⟩ : Fin 11) (⟨col (j 1).val, col_lt (j 1)⟩ : Fin 11))

/-- Storing the images pixel first, laying the pixels out in spiral order and then storing them batch first again is the spiral arrangement. -/
theorem transpose_gathered (x : (⟨4, ![1024, 256, 11, 11]⟩ : Shape).Idx → α)
    (h : (⟨4, ![1024, 256, 11, 11]⟩ : Shape).Transposes [2, 3, 0, 1] ⟨4, ![11, 11, 1024, 256]⟩)
    (h' : (⟨3, ![121, 1024, 256]⟩ : Shape).Transposes [1, 0, 2] ⟨3, ![1024, 121, 256]⟩) :
    transpose ⟨3, ![1024, 121, 256]⟩ [1, 0, 2] (gathered (transpose ⟨4, ![11, 11, 1024, 256]⟩ [2, 3, 0, 1] x h)) h' = spiral x := by
  funext j
  refine (transpose_apply [1, 0, 2] _ h' j (ix3 (n0 := 121) (n1 := 1024) (n2 := 256) (j 1) (j 0) (j 2)) fun b => ?_).trans
    (transpose_apply [2, 3, 0, 1] x h _ _ fun b => ?_)
  · match b with
    | ⟨0, _⟩ => rfl
    | ⟨1, _⟩ => rfl
    | ⟨2, _⟩ => rfl
  · match b with
    | ⟨0, _⟩ => rfl
    | ⟨1, _⟩ => rfl
    | ⟨2, _⟩ => rfl
    | ⟨3, _⟩ => rfl

/-- `L` spiral positions from `d` run along row `r` of the image from column `q`. -/
def AlongRow (d L r q : ℕ) : Prop := ∀ k : Fin L, row (d + k.val) = r ∧ col (d + k.val) = q + k.val

/-- `L` spiral positions from `d` run down column `q` of the image from row `r`. -/
def DownCol (d L r q : ℕ) : Prop := ∀ k : Fin L, row (d + k.val) = r + k.val ∧ col (d + k.val) = q

/-- Whether positions run along a row is a finite check. -/
instance (d L r q : ℕ) : Decidable (AlongRow d L r q) := by unfold AlongRow; infer_instance

/-- Whether positions run down a column is a finite check. -/
instance (d L r q : ℕ) : Decidable (DownCol d L r q) := by unfold DownCol; infer_instance

/-- The image rectangle of `a` rows from `r` and `b` columns from `q` is one row or one column of pixels, and holds, in order, what `L` spiral
    positions from `d` ask for. -/
abbrev Segment (d L r q a b : ℕ) : Prop := (a = 1 ∧ b = L ∧ AlongRow d L r q) ∨ (a = L ∧ b = 1 ∧ DownCol d L r q)

end Cert.Spiral
-- ==== Proof.Pieces.lean ====
/-
  One segment of the spiral on its way through fast memory. A segment is `L` pixels of one row, or of one column, of an image stored pixel
  first. It is copied into the front of a buffer, and from there to `L` consecutive positions of the result. The lemmas say that what arrives is
  the spiral arrangement of the image at those positions.
-/
module

public import proofs.«01_k».proof.Proof.Spiral
public import Idealize.ShloMosaic.Lib.Pipeline.Value
public import Idealize.ShloMosaic.Lib.Writes

@[expose] public section

namespace Cert.Spiral

open Idealize.ShloMosaic Idealize.ShloMosaic.ValueIdx

variable {sig : RefSig} {κ : Kind} {Val : EltTy → Type} {e : EltTy}

/-- A one-row or one-column rectangle of the image, taken as a list of pixels: entry `j 0` is the pixel that many places along it. -/
theorem read_rect {sp : Space} (X : View sig κ sp ⟨4, ![11, 11, 1024, 256]⟩ e) (L r q a b : ℕ)
    (h : ∀ t, (![r, q, 0, 0] : Fin 4 → ℕ) t + (![a, b, 1024, 256] : Fin 4 → ℕ) t ≤ (⟨4, ![11, 11, 1024, 256]⟩ : Shape).size t)
    (hn : (⟨3, ![L, 1024, 256]⟩ : Shape).numel = (⟨4, ![a, b, 1024, 256]⟩ : Shape).numel)
    (f : X.ty.Contents Val) (j : (⟨3, ![L, 1024, 256]⟩ : Shape).Idx) (u : Fin a) (v : Fin b) (huv : u.val * b + v.val = (j 0).val)
    (R Q : Fin 11) (hR : R.val = r + u.val) (hQ : Q.val = q + v.val) :
    ((X.slice (Rect.unit (s := ⟨4, ![11, 11, 1024, 256]⟩) ![r, q, 0, 0] ![a, b, 1024, 256] h)).reshape ⟨3, ![L, 1024, 256]⟩ hn).read Val f j
      = X.read Val f (ix4 R Q (j 1) (j 2)) := by
  have hc : (⟨4, ![a, b, 1024, 256]⟩ : Shape).ShapeCasts ⟨3, ![L, 1024, 256]⟩ := hn
  refine (show _ = shapeCast ⟨3, ![L, 1024, 256]⟩ (X.readAt Val
      (Rect.unit (s := ⟨4, ![11, 11, 1024, 256]⟩) ![r, q, 0, 0] ![a, b, 1024, 256] h).toLoadRect f) hc j from rfl).trans
    ((shapeCast_apply _ hc j (ix4 (n0 := a) (n1 := b) (n2 := 1024) (n3 := 256) u v (j 1) (j 2)) ?_).trans (congrArg (X.read Val f) ?_))
  · rw [Shape.rowMajor_val_four, Shape.rowMajor_val_three]
    show ((u.val * b + v.val) * 1024 + (j 1).val) * 256 + (j 2).val = ((j 0).val * 1024 + (j 1).val) * 256 + (j 2).val
    rw [huv]
  funext t
  match t with
  | ⟨0, _⟩ => exact Fin.ext (by show r + 1 * u.val = R.val; omega)
  | ⟨1, _⟩ => exact Fin.ext (by show q + 1 * v.val = Q.val; omega)
  | ⟨2, _⟩ => exact Fin.ext (by show 0 + 1 * (j 1).val = (j 1).val; omega)
  | ⟨3, _⟩ => exact Fin.ext (by show 0 + 1 * (j 2).val = (j 2).val; omega)

/-- The spiral arrangement, read in the rectangle of `L` positions from `d`. -/
theorem gathered_emb {α : Type} (x : (⟨4, ![11, 11, 1024, 256]⟩ : Shape).Idx → α) (d L : ℕ)
    (h : ∀ a, (![d, 0, 0] : Fin 3 → ℕ) a + (![L, 1024, 256] : Fin 3 → ℕ) a ≤ (⟨3, ![121, 1024, 256]⟩ : Shape).size a)
    (j : (⟨3, ![L, 1024, 256]⟩ : Shape).Idx) (R Q : Fin 11) (hR : R.val = row (d + (j 0).val)) (hQ : Q.val = col (d + (j 0).val)) :
    gathered x ((Rect.unit (s := ⟨3, ![121, 1024, 256]⟩) ![d, 0, 0] ![L, 1024, 256] h).emb j) = x (ix4 R Q (j 1) (j 2)) := by
  unfold gathered
  congr 1
  funext a
  match a with
  | ⟨0, _⟩ => exact Fin.ext (by show row (d + 1 * (j 0).val) = R.val; rw [Nat.one_mul, hR])
  | ⟨1, _⟩ => exact Fin.ext (by show col (d + 1 * (j 0).val) = Q.val; rw [Nat.one_mul, hQ])
  | ⟨2, _⟩ => exact Fin.ext (by show 0 + 1 * (j 1).val = (j 1).val; omega)
  | ⟨3, _⟩ => exact Fin.ext (by show 0 + 1 * (j 2).val = (j 2).val; omega)

/-- A segment of the image, copied into the front of a buffer, whatever the buffer was given before, and read back from there: it arrives at
    positions `d` to `d + L` in spiral order. -/
theorem segment_piece {sp sp' : Space} (X : View sig κ sp ⟨4, ![11, 11, 1024, 256]⟩ e) (d L r q a b : ℕ) (hs : Segment d L r q a b)
    (h : ∀ t, (![r, q, 0, 0] : Fin 4 → ℕ) t + (![a, b, 1024, 256] : Fin 4 → ℕ) t ≤ (⟨4, ![11, 11, 1024, 256]⟩ : Shape).size t)
    (hn : (⟨3, ![L, 1024, 256]⟩ : Shape).numel = (⟨4, ![a, b, 1024, 256]⟩ : Shape).numel)
    (f : X.ty.Contents Val) (x : (⟨4, ![11, 11, 1024, 256]⟩ : Shape).Idx → Val e) (hx : X.read Val f = x)
    (S : View sig κ sp' ⟨3, ![10, 1024, 256]⟩ e)
    (hb : ∀ t, (![0, 0, 0] : Fin 3 → ℕ) t + (![L, 1024, 256] : Fin 3 → ℕ) t ≤ (⟨3, ![10, 1024, 256]⟩ : Shape).size t)
    (g : S.ty.Contents Val) (T : List (View.Piece Val ⟨3, ![10, 1024, 256]⟩ e))
    (ho : ∀ t, (![d, 0, 0] : Fin 3 → ℕ) t + (![L, 1024, 256] : Fin 3 → ℕ) t ≤ (⟨3, ![121, 1024, 256]⟩ : Shape).size t)
    (j : (⟨3, ![L, 1024, 256]⟩ : Shape).Idx) :
    (S.slice (Rect.unit (s := ⟨3, ![10, 1024, 256]⟩) ![0, 0, 0] ![L, 1024, 256] hb)).read Val (S.writes Val g
        (⟨Rect.unit (s := ⟨3, ![10, 1024, 256]⟩) ![0, 0, 0] ![L, 1024, 256] hb,
          ((X.slice (Rect.unit (s := ⟨4, ![11, 11, 1024, 256]⟩) ![r, q, 0, 0] ![a, b, 1024, 256] h)).reshape ⟨3, ![L, 1024, 256]⟩ hn).read Val f⟩ :: T)) j
      = gathered x ((Rect.unit (s := ⟨3, ![121, 1024, 256]⟩) ![d, 0, 0] ![L, 1024, 256] ho).emb j) := by
  subst hx
  have b0 : r + a ≤ 11 := h 0
  have b1 : q + b ≤ 11 := h 1
  have hlt : (j 0).val < L := (j 0).isLt
  refine (View.read_writes_cons_emb S g (Rect.unit (s := ⟨3, ![10, 1024, 256]⟩) ![0, 0, 0] ![L, 1024, 256] hb) _ T j).trans ?_
  rcases hs with ⟨rfl, rfl, hs⟩ | ⟨rfl, rfl, hs⟩
  · have hj := hs (j 0)
    refine (read_rect X _ r q _ _ h hn f j 0 (j 0) (by simp) ⟨r, by omega⟩ ⟨q + (j 0).val, by omega⟩ rfl rfl).trans ?_
    exact (gathered_emb _ d _ ho j _ _ hj.1.symm hj.2.symm).symm
  · have hj := hs (j 0)
    refine (read_rect X _ r q _ _ h hn f j (j 0) 0 (by simp) ⟨r + (j 0).val, by omega⟩ ⟨q, by omega⟩ rfl rfl).trans ?_
    exact (gathered_emb _ d _ ho j _ _ hj.1.symm hj.2.symm).symm

end Cert.Spiral
-- ==== Proof.KernelIdealBody.lean ====
/-
  The kernel's body on its own buffers: from the image stored pixel first, any contents of the result, any contents of the five buffers of
  fast memory and ten idle copy counters, it ends with the result at the spiral arrangement of the image, the image as it was and every counter
  back at zero. Of the arrived segments only two things are used: each agrees with the spiral arrangement, and together they cover the result.
-/
module

public import proofs.«01_k».proof.Proof.Pieces
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameSuffixV
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spiral

variable {F : FTy → Type} [FloatOps F]

local notation "𝕄" => MT nD τ sig Unit (Elt F) ℕ (Pipeline.UD sig nD τ) ℕ

/-- Copy counter `k` of the body on core `c`, with nothing in flight. -/
abbrev idle (c : Dev nD) (k : Fin 10) : sProp 𝕄 := semVal ((c : Thread nD τ), SemLoc.dma k) 0

/-- The image, pixel first. -/
abbrev wX : Memref sig .tc .hbm S11x11x1024x256 .f32 := Memref.whole main_v0
/-- The result, position first. -/
abbrev wO : Memref sig .tc .hbm S121x1024x256 .f32 := Memref.whole main_v1
/-- The first of the five buffers of fast memory. -/
abbrev w0 : Memref sig .tc .vmem S10x1024x256 .f32 := Memref.whole cc0_scratch0
/-- The second buffer of fast memory. -/
abbrev w1 : Memref sig .tc .vmem S10x1024x256 .f32 := Memref.whole cc0_scratch1
/-- The third buffer of fast memory. -/
abbrev w2 : Memref sig .tc .vmem S10x1024x256 .f32 := Memref.whole cc0_scratch2
/-- The fourth buffer of fast memory. -/
abbrev w3 : Memref sig .tc .vmem S10x1024x256 .f32 := Memref.whole cc0_scratch3
/-- The fifth buffer of fast memory. -/
abbrev w4 : Memref sig .tc .vmem S10x1024x256 .f32 := Memref.whole cc0_scratch4

/-- The whole of a buffer of core `c`, at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- Pieces that each agree with the spiral arrangement and together cover every position of the result write it whole. -/
theorem result_of_pieces (x : S11x11x1024x256.Idx → Elt F .f32) (fo : S121x1024x256.Idx → Elt F .f32) (L : List (View.Piece (Elt F) S121x1024x256 .f32))
    (hG : ∀ p ∈ L, ∀ y, p.2 y = gathered x (p.1.emb y)) (hc : ∀ y : S121x1024x256.Idx, (y 0).val < 121 → ∃ p ∈ L, y ∈ p.1.set) :
    wO.view.writes (Elt F) fo L = gathered x :=
  funext fun y => View.read_writes_apply_of_pieces wO.view fo (gathered x) L hG y (hc y (y 0).isLt)

/-- If pieces cover the result's positions below `d`, then with one more piece at the `L` positions from `d` they cover those below `d + L`. -/
theorem cover_cons (d L e : ℕ) (h : ∀ t, (![d, 0, 0] : Fin 3 → ℕ) t + (![L, 1024, 256] : Fin 3 → ℕ) t ≤ S121x1024x256.size t)
    (w : (Rect.unit (s := S121x1024x256) ![d, 0, 0] ![L, 1024, 256] h).shape.Idx → Elt F .f32) (T : List (View.Piece (Elt F) S121x1024x256 .f32))
    (he : e = d + L) (hT : ∀ y : S121x1024x256.Idx, (y 0).val < d → ∃ p ∈ T, y ∈ p.1.set) :
    ∀ y : S121x1024x256.Idx, (y 0).val < e →
      ∃ p ∈ (⟨Rect.unit (s := S121x1024x256) ![d, 0, 0] ![L, 1024, 256] h, w⟩ :: T : List (View.Piece (Elt F) S121x1024x256 .f32)), y ∈ p.1.set := by
  intro y hy
  by_cases hd : (y 0).val < d
  · obtain ⟨p, hp, hm⟩ := hT y hd
    exact ⟨p, List.mem_cons_of_mem _ hp, hm⟩
  · refine ⟨⟨Rect.unit (s := S121x1024x256) ![d, 0, 0] ![L, 1024, 256] h, w⟩, List.mem_cons_self, (Rect.mem_set_unit (inb := h)).2 fun t => ?_⟩
    match t with
    | ⟨0, _⟩ => exact ⟨Nat.le_of_not_lt hd, by show (y 0).val < d + L; omega⟩
    | ⟨1, _⟩ => exact ⟨Nat.zero_le _, by show (y 1).val < 0 + 1024; rw [Nat.zero_add]; exact (y 1).isLt⟩
    | ⟨2, _⟩ => exact ⟨Nat.zero_le _, by show (y 2).val < 0 + 256; rw [Nat.zero_add]; exact (y 2).isLt⟩

set_option maxHeartbeats 4000000 in
set_option sl_exec.dmaWindow true in
/-- The body run from its buffers, held whole. -/
theorem body_run (c : Dev nD) (i : grid0.Coords) (fx : S11x11x1024x256.Idx → Elt F .f32) (fo : S121x1024x256.Idx → Elt F .f32)
    (f0 f1 f2 f3 f4 : S10x1024x256.Idx → Elt F .f32) (W : Waits sig Unit) (K : PUnit → sProp 𝕄) :
    iprop(pt c wX fx ∗ pt c wO fo ∗ pt c w0 f0 ∗ pt c w1 f1 ∗ pt c w2 f2 ∗ pt c w3 f3 ∗ pt c w4 f4
        ∗ idle c 0 ∗ idle c 1 ∗ idle c 2 ∗ idle c 3 ∗ idle c 4 ∗ idle c 5 ∗ idle c 6 ∗ idle c 7 ∗ idle c 8 ∗ idle c 9
        ∗ owes (c : Thread nD τ) 0 W
        ∗ (pt c wX fx ∗ (∃ g, ⌜g = gathered fx⌝ ∗ pt c wO g)
            ∗ (∃ g, pt c w0 g) ∗ (∃ g, pt c w1 g) ∗ (∃ g, pt c w2 g) ∗ (∃ g, pt c w3 g) ∗ (∃ g, pt c w4 g)
            ∗ idle c 0 ∗ idle c 1 ∗ idle c 2 ∗ idle c 3 ∗ idle c 4 ∗ idle c 5 ∗ idle c 6 ∗ idle c 7 ∗ idle c 8 ∗ idle c 9
            ∗ (∃ W', owes (c : Thread nD τ) 0 W') -∗ K ⟨⟩))
      ⊢ wp frame (wpE (defs₀ (F := F)) Variants.none c none) Set.univ
          (cc0__seg_body i wX (Memref.isWhole_whole _) wO (Memref.isWhole_whole _) w0 (Memref.isWhole_whole _) w1 (Memref.isWhole_whole _)
            w2 (Memref.isWhole_whole _) w3 (Memref.isWhole_whole _) w4 (Memref.isWhole_whole _) cc0_scratch5 cc0_scratch6) K := by
  simp only [cc0__seg_body_eq_skeleton]; unfold cc0__seg_body_skel
  iintro ⟨HX, HO, H0, H1, H2, H3, H4, Hs0, Hs1, Hs2, Hs3, Hs4, Hs5, Hs6, Hs7, Hs8, Hs9, HW, Hk⟩
  sl_exec
  sl_step
  iapply Hk
  isplitl [HX]; · iexact HX
  isplitl [HO]
  · iexists _; isplitr
    swap; · iexact HO
    ipureintro
    refine result_of_pieces fx fo _ ?_ ?_
    · repeat'
        first
          | exact List.forall_mem_nil _
          | refine List.forall_mem_cons.2 ⟨fun y => ?_, ?_⟩
      all_goals
        dsimp only [
          body_run.sl.dma0_1, body_run.sl.dma0_2, body_run.sl.dma0_3, body_run.sl.dma0_4, body_run.sl.dma0_5, body_run.sl.dma0_6,
          body_run.sl.dma0_7, body_run.sl.dma0_8, body_run.sl.dma0_9, body_run.sl.dma0_10, body_run.sl.dma0_11,
          body_run.sl.dma0_12, body_run.sl.dma0_13, body_run.sl.dma0_14, body_run.sl.dma0_15, body_run.sl.dma0_16,
          body_run.sl.dma0_17, body_run.sl.dma0_18, body_run.sl.dma0_19, body_run.sl.dma0_20, body_run.sl.dma0_21,
          body_run.sl.dma0_22, body_run.sl.dma0_23, body_run.sl.dma0_24, body_run.sl.dma0_25, body_run.sl.dma0_26,
          body_run.sl.dma0_27, body_run.sl.dma0_28, body_run.sl.dma0_29, body_run.sl.dma0_30, body_run.sl.dma0_31,
          body_run.sl.dma0_32, body_run.sl.dma0_33, body_run.sl.dma0_34, body_run.sl.dma0_35, body_run.sl.dma0_36,
          body_run.sl.dma0_37, body_run.sl.dma0_38, body_run.sl.dma0_39, body_run.sl.dma0_40, body_run.sl.dma0_41, ReadAs.apply]
        refine segment_piece (View.whole main_v0) _ _ _ _ _ _ ?_ _ _ fx fx rfl _ _ _ _ _ y
        decide +kernel
    · repeat
        refine cover_cons (F := F) _ _ _ _ _ _ ?_ ?_
        · rfl
      exact fun y h => absurd h (Nat.not_lt_zero _)
  isplitl [H0]; · iexists _; iexact H0
  isplitl [H1]; · iexists _; iexact H1
  isplitl [H2]; · iexists _; iexact H2
  isplitl [H3]; · iexists _; iexact H3
  isplitl [H4]; · iexists _; iexact H4
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  iexists _; iexact HW

end Cert.KernelIdeal.Hand

end
-- ==== Proof.KernelIdealRun.lean ====
/-
  The whole kernel: the host lays the images out pixel first, the body rearranges the pixels, the host stores the result batch first. Every run
  ends with the result at the spiral arrangement of the argument, the argument as it was and every counter at zero.
-/
module

public import proofs.«01_k».proof.Proof.KernelIdealBody
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spiral

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the body is lent -/

/-- The ten copy counters: five for the copies in, five for the copies out. -/
abbrev osem0 : Fin 10 → SemLoc sig := fun j => SemLoc.dma j
/-- The ten counters are distinct, and none of them belongs to the launch's own staging. -/
theorem ownSemFacts0 : Pipeline.OwnSemFacts cfg0.spec osem0 := by decide

/-- The buffer the body reads: the image, pixel first. -/
def H0 : Finset (Ref sig .tc) := {main_v0}
/-- The buffer the body writes: the result, position first. -/
def R0 : Finset (Ref sig .tc) := {main_v1}
/-- The image is not staged by the launch. -/
theorem H0_sub : H0 ⊆ Pipeline.restRefs sig cfg0.spec := by decide
/-- Nor is the result, which is another buffer than the image. -/
theorem R0_sub : R0 ⊆ Pipeline.restRefs sig cfg0.spec \ H0 := by decide

/-- The buffers as the body leaves them: the result at the spiral arrangement of the image, every other one as the body found it. -/
def G (c : Dev nD) : (b : Ref sig .tc) → Buf (Elt F) ((c : Thread nD τ).loc b) :=
  Function.update (V m c) main_v1 (gathered (V m c main_v0))

/-- The body leaves the spiral arrangement of the image in the result. -/
theorem G_result (c : Dev nD) : G m c main_v1 = gathered (V m c main_v0) := Function.update_self ..

/-- What the body holds besides its arrays, the result at what `G'` gives for it. -/
theorem held_eq (c : Dev nD) (G' : (c : Dev nD) → (b : Ref sig .tc) → Buf (Elt F) ((c : Thread nD τ).loc b)) :
    (Pipeline.ΦDRV osem0 cfg0.spec H0 R0 (V m) G' c : sProp 𝕄)
      = iprop(((∃ g, pt c w0 g) ∗ (∃ g, pt c w1 g) ∗ (∃ g, pt c w2 g) ∗ (∃ g, pt c w3 g) ∗ (∃ g, pt c w4 g))
          ∗ (idle c 0 ∗ idle c 1 ∗ idle c 2 ∗ idle c 3 ∗ idle c 4 ∗ idle c 5 ∗ idle c 6 ∗ idle c 7 ∗ idle c 8 ∗ idle c 9)
          ∗ pt c wX (V m c main_v0) ∗ pt c wO (G' c main_v1)) := by
  unfold Pipeline.ΦDRV
  rw [scopedRest0_eq, Pipeline.ownSems0_eq_of_list c osem0 [0, 1, 2, 3, 4, 5, 6, 7, 8, 9] (by decide) (by decide),
    BI.bigSep_eq_bigSepL_of_eq (S := H0) [main_v0] (by decide) (by decide), BI.bigSep_eq_bigSepL_of_eq (S := R0) [main_v1] (by decide) (by decide)]
  rfl

/-- The proof data of the launch: no array is staged; before the body everything is as the host left it, after it the result is written. -/
def dats (_ : Fin 1) (c : Dev nD) : Dat τ (Elt F) Unit ℕ (Pipeline.UD sig nD τ) ℕ cfg0 c where
  A w := V m c (Pipeline.arrRef cfg0.spec w)
  after w _ := w.elim0
  Φ t := match t.val with
    | 0 => Pipeline.ΦDRV osem0 cfg0.spec H0 R0 (V m) (V m) c
    | _ => Pipeline.ΦDRV osem0 cfg0.spec H0 R0 (V m) (G m) c
  q _ := fullShare
  owed _ := 0

/-- A staged array, had the launch any, would start as the host left it. -/
theorem A_eq (c : Dev nD) (w : Fin cfg0.W) : (dats m 0 c).A w = V m c (Pipeline.arrRef cfg0.spec w) := rfl

/-- Nothing is staged, so nothing is held for staging. -/
theorem staged_none (Φ : Fin 0 → sProp 𝕄) : bigSep Finset.univ Φ = iprop(emp) := by
  rw [Finset.univ_eq_empty]; exact bigSep_empty

/-- The body, from what the launch lends it, gives all of it back with the result written. -/
theorem body_sound (c : Dev nD) (t : Fin cfg0.N) :
    iprop((dats m 0 c).Φ t.castSucc ∗ (dats m 0 c).owesAt () t.castSucc ∗ emp)
      ⊢ wp frame (wpE (defs₀ (F := F)) Variants.none c none) Set.univ (bodyAt0 t)
          (fun _ => iprop((dats m 0 c).Φ t.succ ∗ (dats m 0 c).owesAt () t.succ ∗ emp)) := by
  have ht : t = t0_0 := fin_N0 t
  subst ht
  rw [show (dats m 0 c).Φ (Fin.castSucc t0_0) = Pipeline.ΦDRV osem0 cfg0.spec H0 R0 (V m) (V m) c from rfl,
    show (dats m 0 c).Φ (Fin.succ t0_0) = Pipeline.ΦDRV osem0 cfg0.spec H0 R0 (V m) (G m) c from rfl, held_eq, held_eq, G_result]
  unfold Dat.owesAt Pipeline.owesWithin
  rw [show (dats m 0 c).owed (Fin.castSucc t0_0) = 0 from rfl, show (dats m 0 c).owed (Fin.succ t0_0) = 0 from rfl]
  iintro ⟨⟨⟨⟨%f0, H0⟩, ⟨%f1, H1⟩, ⟨%f2, H2⟩, ⟨%f3, H3⟩, ⟨%f4, H4⟩⟩, ⟨Hs0, Hs1, Hs2, Hs3, Hs4, Hs5, Hs6, Hs7, Hs8, Hs9⟩, HX, HO⟩, ⟨%W, -, HW⟩, -⟩
  iapply (body_run c (grid0.coords t0_0) (V m c main_v0) (V m c main_v1) f0 f1 f2 f3 f4 W _)
  iframe HX HO H0 H1 H2 H3 H4 Hs0 Hs1 Hs2 Hs3 Hs4 Hs5 Hs6 Hs7 Hs8 Hs9 HW
  iintro ⟨HX, ⟨%g, %hg, HO⟩, H0, H1, H2, H3, H4, Hs0, Hs1, Hs2, Hs3, Hs4, Hs5, Hs6, Hs7, Hs8, Hs9, ⟨%W', HW⟩⟩
  subst hg
  isplitr [HW]
  · isplitl [H0 H1 H2 H3 H4]
    · iframe H0 H1 H2 H3 H4
    isplitl [Hs0 Hs1 Hs2 Hs3 Hs4 Hs5 Hs6 Hs7 Hs8 Hs9]
    · iframe Hs0 Hs1 Hs2 Hs3 Hs4 Hs5 Hs6 Hs7 Hs8 Hs9
    iframe HX HO
  isplitl [HW]
  · iexists W'; isplitr; · ipureintro; exact fun _ _ => Or.inl trivial
    iexact HW
  exact .rfl

/-- The body the launch calls at a grid point is the body at that point. -/
theorem defs₀_row (t : Fin cfg0.N) : defs₀ (F := F) .tc cfg0.body (cfg0.bodyArgs t (cfg0.slots t)) = bodyAt0 t := by
  unfold defs₀; rw [Defs.onTc_tc]

/-- The launch's demand on the body is met: nothing is staged, so it is what `body_sound` says. -/
theorem body_obligation (c : Dev nD) : BodyObligation (dats (F := F) m 0 c) (defs₀ (F := F)) Variants.none () Set.univ := fun t => by
  rw [defs₀_row]
  refine triple_restated (body_sound m c t) rfl ?_ fun _ => ?_
  · rw [staged_none]
  · rw [staged_none]

/-! ## The run -/

set_option maxHeartbeats 800000 in
/-- `main` around its one launch. -/
theorem main_around (𝒱₀ : Variants) :
    Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What the host lines after the launch make of a buffer no window stages. -/
abbrev final (c : Dev nD) (b : Ref sig .tc) : Buf (Elt F) ((c : Thread nD τ).loc b) :=
  StableHlo.after ([hostOps1] : List (List (HloOp τ sig (Elt F)))).flatten
    (Pipeline.withArrays cfg0.spec c (Pipeline.withR (V0 m c) R0 c (G m c)) fun w => (dats m 0 c).arrAt w cfg0.N) (Proc.devRef .tc b)

set_option backward.isDefEq.respectTransparency.types false in
/-- Every run of `main` ends with each buffer at what the host lines after the launch make of it, and every counter at zero. -/
theorem run_main : θ_run defs (onTc (τ := τ) (main (F := F))) (s₀ m ρ) (fun r =>
    (∀ c : Dev nD, ∀ b ∈ Pipeline.restRefs sig cfg0.spec, r.2.mem ((c.tc : Thread nD τ).loc b) = final m c b) ∧ r.2.sem = fun _ => 0) :=
  Pipeline.θ_run_frame_dmaR_aroundV cfgs (dats m) (0 : Fin 1) launch0 osem0 defs₀ Variants.none ownSemFacts0 H0 R0 H0_sub R0_sub m ρ main
    (fun c => (body_obligation m c).loose) (fun c => (dats m 0 c).share_full fun _ => rfl) (fun _ _ => rfl)
    (V0 m) [hostOps1] sfx_sub sfx_fresh sfx_keeps (G m) (main_around m Variants.none) (A_eq m)
    (fun _ => .rfl) (fun _ => .rfl) _ (fun r h => ⟨fun c => (h.1 c).2, h.2⟩)

/-- The body is given the argument stored pixel first. -/
theorem image_eq (c : Dev nD) : V m c main_v0
    = transpose S11x11x1024x256 [2, 3, 0, 1] (m ((c : Thread nD τ).loc main_arg0)) transposes_S1024x256x11x11_S11x11x1024x256_2_3_0_1 := by
  show StableHlo.after (List.flatten [hostOps0]) (fun b => m (c, b)) (Proc.devRef .tc main_v0) = _
  simp only [hostOps0, List.flatten_cons, List.flatten_nil, List.append_nil]
  after_results_simp

/-- The result ends at the spiral arrangement of the argument. -/
theorem final_result (c : Dev nD) : final m c main_v2 = spiral (m ((c : Thread nD τ).loc main_arg0)) := by
  have h : final m c main_v2 = transpose S1024x121x256 [1, 0, 2] (G m c main_v1) transposes_S121x1024x256_S1024x121x256_1_0_2 := by
    refine Eq.trans ?_ (congrArg (fun x => transpose S1024x121x256 [1, 0, 2] x transposes_S121x1024x256_S1024x121x256_1_0_2)
      ((Pipeline.withArrays_of_ne cfg0.spec c (Pipeline.withR (V0 m c) R0 c (G m c)) (fun w => (dats m 0 c).arrAt w cfg0.N) main_v1 fun w => w.elim0).trans
        (Pipeline.withR_of_mem (V0 m c) R0 c (G m c) main_v1 (by decide))))
    unfold final
    simp only [hostOps1, List.flatten_cons, List.flatten_nil, List.append_nil]
    after_results_simp
  rw [h, G_result, image_eq]
  exact transpose_gathered _ _ _

/-- The argument ends as it was. -/
theorem final_arg (c : Dev nD) : final m c main_arg0 = m ((c : Thread nD τ).loc main_arg0) := by
  have h : final m c main_arg0 = V m c main_arg0 := by
    refine Eq.trans ?_ ((Pipeline.withArrays_of_ne cfg0.spec c (Pipeline.withR (V0 m c) R0 c (G m c)) (fun w => (dats m 0 c).arrAt w cfg0.N) main_arg0
      fun w => w.elim0).trans (Pipeline.withR_of_not_mem (V0 m c) R0 c (G m c) main_arg0 (by decide)))
    unfold final
    simp only [hostOps1, List.flatten_cons, List.flatten_nil, List.append_nil]
    after_results_simp
  rw [h, V_main_arg0]

/-- **The kernel's run**: the result at the spiral arrangement of the argument, the argument unchanged, every counter at zero. -/
theorem run : θ_run defs (onTc (τ := τ) (main (F := F))) ⟨m, fun _ => 0, ρ⟩ (fun r =>
    (∀ c : Dev nD, r.2.mem ((c.tc : Thread nD τ).loc main_v2) = spiral (m ((c.tc : Thread nD τ).loc main_arg0))
      ∧ r.2.mem ((c.tc : Thread nD τ).loc main_arg0) = m ((c.tc : Thread nD τ).loc main_arg0)) ∧ r.2.sem = fun _ => 0) :=
  (θ_run defs _ _).mono (fun r h => ⟨fun c =>
    ⟨(h.1 c main_v2 (Pipeline.mem_restRefs_of main_v2 (by decide) (by decide))).trans (final_result m c),
      (h.1 c main_arg0 (Pipeline.mem_restRefs_of main_arg0 (by decide) (by decide))).trans (final_arg m c)⟩, h.2⟩) (run_main m ρ)

end Cert.KernelIdeal.Hand

end
-- ==== Proof.Scatter.lean ====
/-
  The two ways the reference sets positions of a batch of sequences, `a.at[:, d, :].set(v)` and `a.at[:, d : d + L, :].set(v)`, read at an entry;
  and what they do to a sequence that is in spiral order at every position below `d`: after a segment is set at `d`, it is in spiral order at
  every position below `d + L`.
-/
module

public import proofs.«01_k».proof.Proof.Spiral
public import Idealize.ShloMosaic.Lib.Routing.OpsSet
public import Idealize.ShloMosaic.Lib.Routing.OpsPair
public import Idealize.ShloMosaic.Lib.Pipeline.Value

@[expose] public section

namespace Cert.Spiral

open Idealize.ShloMosaic Idealize.ShloMosaic.ValueIdx Idealize.ShloMosaic.Routing

variable {α : Type}

/-- The batch of sequences that the reference fills. -/
abbrev Out : Shape := ⟨3, ![1024, 121, 256]⟩
/-- One index word. -/
abbrev Word : Shape := ⟨1, ![1]⟩

/-- The one index word of a scatter along the positions is every update's start there, and no other axis has a start. -/
theorem start_eq {u : Shape} (D : ScatterDims Out Word u) (hsd : D.scatterDimsToOperandDims = [1]) (idx : IVec Word 32) (n : ℤ)
    (hidx : ∀ w, (idx w).toInt = n) (k : u.Idx) : D.start k idx 0 = 0 ∧ D.start k idx 1 = n ∧ D.start k idx 2 = 0 := by
  refine ⟨?_, ?_, ?_⟩
  · unfold ScatterDims.start
    exact dif_neg (by rw [hsd]; decide)
  · unfold ScatterDims.start
    rw [dif_pos (by rw [hsd]; decide)]
    exact hidx _
  · unfold ScatterDims.start
    exact dif_neg (by rw [hsd]; decide)

/-- Setting the window of `L` positions from `d`: update `k` lands at its own batch and channel, at position `d + k 1`. -/
theorem lands_window (L : ℕ) (D : ScatterDims Out Word ⟨3, ![1024, L, 256]⟩) (hu : D.updateWindowDims = [0, 1, 2]) (hiw : D.insertedWindowDims = [])
    (hsd : D.scatterDimsToOperandDims = [1]) (idx : IVec Word 32) (d : ℕ) (hidx : ∀ w, (idx w).toInt = (d : ℤ))
    (k : (⟨3, ![1024, L, 256]⟩ : Shape).Idx) (j : Out.Idx) :
    D.resultIdx? k idx = some j ↔ (k 0).val = (j 0).val ∧ d + (k 1).val = (j 1).val ∧ (k 2).val = (j 2).val := by
  obtain ⟨s0, s1, s2⟩ := start_eq D hsd idx d hidx k
  have hkept : D.sKept = [0, 1, 2] := by
    show Out.kept D.insertedWindowDims = _
    rw [hiw]; rfl
  have hat : ∀ (l s : List (Fin 3)) (a : Fin 3) (_ : l = [0, 1, 2]) (_ : s = [0, 1, 2]) (h : s.idxOf a < l.length), l[s.idxOf a]'h = a := by
    rintro l s a rfl rfl h
    revert a
    decide
  have hwin : ∀ a : Fin 3, D.window k a = (k a).val := by
    intro a
    unfold ScatterDims.window
    rw [dif_pos (by rw [hkept]; revert a; decide)]
    exact congrArg (fun t : Fin 3 => (k t).val) (hat _ _ a hu hkept _)
  have e0 : D.start k idx 0 + (D.window k 0 : ℤ) = ((j 0).val : ℤ) ↔ (k 0).val = (j 0).val := by rw [s0, hwin]; omega
  have e1 : D.start k idx 1 + (D.window k 1 : ℤ) = ((j 1).val : ℤ) ↔ d + (k 1).val = (j 1).val := by rw [s1, hwin]; omega
  have e2 : D.start k idx 2 + (D.window k 2 : ℤ) = ((j 2).val : ℤ) ↔ (k 2).val = (j 2).val := by rw [s2, hwin]; omega
  rw [resultIdx?_eq_some]
  constructor
  · exact fun h => ⟨e0.1 (h 0), e1.1 (h 1), e2.1 (h 2)⟩
  · rintro ⟨h0, h1, h2⟩ a
    match a with
    | ⟨0, _⟩ => exact e0.2 h0
    | ⟨1, _⟩ => exact e1.2 h1
    | ⟨2, _⟩ => exact e2.2 h2

/-- Setting the one position `d`: update `k` lands at its own batch and channel, at position `d`. -/
theorem lands_single (D : ScatterDims Out Word ⟨2, ![1024, 256]⟩) (hu : D.updateWindowDims = [0, 1]) (hiw : D.insertedWindowDims = [1])
    (hsd : D.scatterDimsToOperandDims = [1]) (idx : IVec Word 32) (d : ℕ) (hidx : ∀ w, (idx w).toInt = (d : ℤ))
    (k : (⟨2, ![1024, 256]⟩ : Shape).Idx) (j : Out.Idx) :
    D.resultIdx? k idx = some j ↔ (k 0).val = (j 0).val ∧ d = (j 1).val ∧ (k 1).val = (j 2).val := by
  obtain ⟨s0, s1, s2⟩ := start_eq D hsd idx d hidx k
  have hkept : D.sKept = [0, 2] := by
    show Out.kept D.insertedWindowDims = _
    rw [hiw]; rfl
  have hat : ∀ (l : List (Fin 2)) (s : List (Fin 3)) (_ : l = [0, 1]) (_ : s = [0, 2]),
      (∀ h : s.idxOf 0 < l.length, l[s.idxOf 0]'h = 0) ∧ ∀ h : s.idxOf 2 < l.length, l[s.idxOf 2]'h = 1 := by
    rintro l s rfl rfl
    exact ⟨fun _ => rfl, fun _ => rfl⟩
  have hwin0 : D.window k 0 = (k 0).val := by
    unfold ScatterDims.window
    rw [dif_pos (by rw [hkept]; decide)]
    exact congrArg (fun t : Fin 2 => (k t).val) ((hat _ _ hu hkept).1 _)
  have hwin1 : D.window k 1 = 0 := by
    unfold ScatterDims.window
    exact dif_neg (by rw [hkept]; decide)
  have hwin2 : D.window k 2 = (k 1).val := by
    unfold ScatterDims.window
    rw [dif_pos (by rw [hkept]; decide)]
    exact congrArg (fun t : Fin 2 => (k t).val) ((hat _ _ hu hkept).2 _)
  have e0 : D.start k idx 0 + (D.window k 0 : ℤ) = ((j 0).val : ℤ) ↔ (k 0).val = (j 0).val := by rw [s0, hwin0]; omega
  have e1 : D.start k idx 1 + (D.window k 1 : ℤ) = ((j 1).val : ℤ) ↔ d = (j 1).val := by rw [s1, hwin1]; omega
  have e2 : D.start k idx 2 + (D.window k 2 : ℤ) = ((j 2).val : ℤ) ↔ (k 1).val = (j 2).val := by rw [s2, hwin2]; omega
  rw [resultIdx?_eq_some]
  constructor
  · exact fun h => ⟨e0.1 (h 0), e1.1 (h 1), e2.1 (h 2)⟩
  · rintro ⟨h0, h1, h2⟩ a
    match a with
    | ⟨0, _⟩ => exact e0.2 h0
    | ⟨1, _⟩ => exact e1.2 h1
    | ⟨2, _⟩ => exact e2.2 h2

/-- The image batch `x` as the reference holds it: batch, row, column, channel. -/
abbrev Held : Shape := ⟨4, ![1024, 11, 11, 256]⟩

/-- A rectangle of the held image batch, read at an index: the pixel and channel of the argument. -/
theorem rect_apply (x : (⟨4, ![1024, 256, 11, 11]⟩ : Shape).Idx → α) (r q a b : ℕ)
    (ht : (⟨4, ![1024, 256, 11, 11]⟩ : Shape).Transposes [0, 2, 3, 1] Held) (hs : Held.Slices ![0, r, q, 0] ⟨4, ![1024, a, b, 256]⟩)
    (n : Fin 1024) (u : Fin a) (v : Fin b) (c : Fin 256) (R Q : Fin 11) (hR : R.val = r + u.val) (hQ : Q.val = q + v.val) :
    extractStridedSlice ⟨4, ![1024, a, b, 256]⟩ ![0, r, q, 0] (transpose Held [0, 2, 3, 1] x ht) hs (ix4 n u v c) = x (ix4 n c R Q) := by
  unfold extractStridedSlice
  refine transpose_apply [0, 2, 3, 1] x ht _ _ fun t => ?_
  match t with
  | ⟨0, _⟩ => exact (Nat.zero_add _).symm
  | ⟨1, _⟩ => exact hR
  | ⟨2, _⟩ => exact hQ
  | ⟨3, _⟩ => exact (Nat.zero_add _).symm

/-- The batch `A` of sequences is in spiral order at every position below `d`. -/
def Below (x : (⟨4, ![1024, 256, 11, 11]⟩ : Shape).Idx → α) (d : ℕ) (A : Out.Idx → α) : Prop := ∀ j : Out.Idx, (j 1).val < d → A j = spiral x j

/-- Setting the centre pixel at position 0 puts position 0 in spiral order. -/
theorem below_single (x : (⟨4, ![1024, 256, 11, 11]⟩ : Shape).Idx → α) (D : ScatterDims Out Word ⟨2, ![1024, 256]⟩) (hu : D.updateWindowDims = [0, 1])
    (hiw : D.insertedWindowDims = [1]) (hsd : D.scatterDimsToOperandDims = [1]) (idx : IVec Word 32) (hidx : ∀ w, (idx w).toInt = 0) (A : Out.Idx → α)
    (ht : (⟨4, ![1024, 256, 11, 11]⟩ : Shape).Transposes [0, 2, 3, 1] Held) (hs : Held.Slices ![0, 5, 5, 0] ⟨4, ![1024, 1, 1, 256]⟩)
    (hc : (⟨4, ![1024, 1, 1, 256]⟩ : Shape).ShapeCasts ⟨2, ![1024, 256]⟩) :
    Below x 1 (Host.scatter D (fun _ b => b) A idx
      (shapeCast ⟨2, ![1024, 256]⟩ (extractStridedSlice ⟨4, ![1024, 1, 1, 256]⟩ ![0, 5, 5, 0] (transpose Held [0, 2, 3, 1] x ht) hs) hc)) := by
  intro j hj
  have hj0 : (j 1).val = 0 := by omega
  have lands := lands_single D hu hiw hsd idx 0 hidx
  refine scatter_set_hit D A idx _ j _ (fun k hk => ?_) (ix2 (n0 := 1024) (n1 := 256) (j 0) (j 2)) ((lands _ j).2 ⟨rfl, hj0.symm, rfl⟩)
  obtain ⟨h0, -, h2⟩ := (lands k j).1 hk
  refine (shapeCast_apply _ hc k (ix4 (n0 := 1024) (n1 := 1) (n2 := 1) (n3 := 256) (j 0) 0 0 (j 2)) ?_).trans
    (rect_apply x 5 5 1 1 ht hs (j 0) 0 0 (j 2) _ _ ?_ ?_)
  · rw [Shape.rowMajor_val_four, Shape.rowMajor_val_two]
    show (((j 0).val * 1 + 0) * 1 + 0) * 256 + (j 2).val = (k 0).val * 256 + (k 1).val
    omega
  · show row (j 1).val = 5; rw [hj0]; rfl
  · show col (j 1).val = 5; rw [hj0]; rfl

/-- Setting a segment at position `d`: what was in spiral order below `d` stays so, and the segment's positions join it. -/
theorem below_window (x : (⟨4, ![1024, 256, 11, 11]⟩ : Shape).Idx → α) (d L r q a b e : ℕ) (D : ScatterDims Out Word ⟨3, ![1024, L, 256]⟩)
    (hu : D.updateWindowDims = [0, 1, 2]) (hiw : D.insertedWindowDims = []) (hsd : D.scatterDimsToOperandDims = [1]) (idx : IVec Word 32)
    (hidx : ∀ w, idx w = BitVec.ofNat 32 d) (hd : d < 2 ^ 31) (A : Out.Idx → α)
    (ht : (⟨4, ![1024, 256, 11, 11]⟩ : Shape).Transposes [0, 2, 3, 1] Held) (hs : Held.Slices ![0, r, q, 0] ⟨4, ![1024, a, b, 256]⟩)
    (hc : (⟨4, ![1024, a, b, 256]⟩ : Shape).ShapeCasts ⟨3, ![1024, L, 256]⟩) (hseg : Segment d L r q a b) (he : e = d + L) (hA : Below x d A) :
    Below x e (Host.scatter D (fun _ b => b) A idx
      (shapeCast ⟨3, ![1024, L, 256]⟩ (extractStridedSlice ⟨4, ![1024, a, b, 256]⟩ ![0, r, q, 0] (transpose Held [0, 2, 3, 1] x ht) hs) hc)) := by
  intro j hj
  have lands := lands_window L D hu hiw hsd idx d fun w => by rw [hidx w, StableHlo.Predicate.toInt_ofNat_small _ hd]
  by_cases hjd : (j 1).val < d
  · refine (scatter_set_miss D A idx _ j fun k hk => ?_).trans (hA j hjd)
    have := ((lands k j).1 hk).2.1
    omega
  have hl : (j 1).val - d < L := by omega
  refine scatter_set_hit D A idx _ j _ (fun k hk => ?_) (ix3 (n0 := 1024) (n1 := L) (n2 := 256) (j 0) ⟨(j 1).val - d, hl⟩ (j 2))
    ((lands _ j).2 ⟨rfl, Nat.add_sub_cancel' (Nat.le_of_not_lt hjd), rfl⟩)
  obtain ⟨h0, h1, h2⟩ := (lands k j).1 hk
  -- the pixel of the rectangle that update `k` carries
  have key : ∀ (u : Fin a) (v : Fin b), ((j 0).val * a + u.val) * b + v.val = (j 0).val * L + (k 1).val →
      row (j 1).val = r + u.val → col (j 1).val = q + v.val →
      shapeCast ⟨3, ![1024, L, 256]⟩ (extractStridedSlice ⟨4, ![1024, a, b, 256]⟩ ![0, r, q, 0] (transpose Held [0, 2, 3, 1] x ht) hs) hc k
        = spiral x j := by
    intro u v huv hr hq
    refine (shapeCast_apply _ hc k (ix4 (n0 := 1024) (n1 := a) (n2 := b) (n3 := 256) (j 0) u v (j 2)) ?_).trans
      (rect_apply x r q a b ht hs (j 0) u v (j 2) _ _ hr hq)
    rw [Shape.rowMajor_val_four, Shape.rowMajor_val_three]
    show (((j 0).val * a + u.val) * b + v.val) * 256 + (j 2).val = ((k 0).val * L + (k 1).val) * 256 + (k 2).val
    rw [huv, h0, h2]
  rcases hseg with ⟨rfl, rfl, hseg⟩ | ⟨rfl, rfl, hseg⟩
  · have hk := hseg (k 1)
    rw [h1] at hk
    exact key 0 (k 1) (by simp) hk.1 hk.2
  · have hk := hseg (k 1)
    rw [h1] at hk
    exact key (k 1) 0 (by simp) hk.1 hk.2

end Cert.Spiral
-- ==== Proof.ReferenceValue.lean ====
/-
  The reference's result: it sets the centre pixel and then twenty segments, each after the one before, so its sequences come to be in spiral
  order from the front, and at the end everywhere.
-/
module

public import proofs.«01_k».proof.Proof.Scatter
public import proofs.«01_k».proof.Proof.Gen.ReferenceIdeal.Run

@[expose] public section

set_option maxRecDepth 16384

noncomputable section

namespace Cert.ReferenceIdeal.Hand

open Cert.ReferenceIdeal Cert.ReferenceIdeal.Value
open Idealize.ShloMosaic Idealize.ShloMosaic.TcCoe Idealize.SL.Sem
open Cert.Spiral

variable {F : FTy → Type} [FloatOps F]

/-- The reference's result is the spiral arrangement of its argument. -/
theorem result_eq (m : (ℓ : Loc nD τ sig) → Buf (Elt F) ℓ) (c : Dev nD) : res_out0 m c = spiral (m ((c.tc : Thread nD τ).loc main_arg0)) := by
  have h : Below (m ((c.tc : Thread nD τ).loc main_arg0)) 121 (res_out0 m c) := by
    unfold res_out0 res_main_v85
    iterate 20
      refine below_window _ _ _ _ _ _ _ _ _ (by rfl) (by rfl) (by rfl) _ (fun _ => by rfl) (by decide) _ _ _ _ (by decide +kernel) (by rfl) ?_
    exact below_single _ _ (by rfl) (by rfl) (by rfl) _ (fun _ => by rfl) _ _ _ _
  exact funext fun j => h j (j 1).isLt

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.ReferenceValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel, as compiled, leaves its argument as it was and every counter at zero. -/
theorem frame_kernel : @Cert.quiescent_Kernel Cert.Kernel.Gen.facts := fun m g _ =>
  (θ_run (Cert.Kernel.defs (F := Bits)) _ _).mono (fun r h => ⟨fun c => (h.1 c).2, h.2⟩) (Cert.Kernel.Hand.run m g)

/-- So does the kernel over the extended reals. -/
theorem frame_kernel_ideal : @Cert.quiescent_KernelIdeal Cert.KernelIdeal.Gen.facts := fun m g _ =>
  (θ_run (Cert.KernelIdeal.defs (F := Ideal)) _ _).mono (fun r h => ⟨fun c => (h.1 c).2, h.2⟩) (Cert.KernelIdeal.Hand.run m g)

/-- And the reference, which has no counter. -/
theorem frame_reference : @Cert.quiescent_ReferenceIdeal Cert.ReferenceIdeal.Gen.facts := fun m g _ =>
  (θ_run (Cert.ReferenceIdeal.defs (F := Ideal)) _ _).mono
    (fun r h => ⟨fun c => (h c).2, sem_eq_zero_of_no_sems (by decide) r.2⟩) (Cert.ReferenceIdeal.Value.run m g)

/-- The kernel and the reference end with the same result: the spiral arrangement of their argument. -/
theorem same_result : @Cert.algebraic_KernelIdeal_ReferenceIdeal Cert.KernelIdeal.Gen.facts Cert.ReferenceIdeal.Gen.facts := fun m g m' g' _ hm =>
  ⟨fun c => Cert.Spiral.spiral (m ((c.tc : Thread Cert.KernelIdeal.nD Cert.KernelIdeal.τ).loc Cert.KernelIdeal.main_arg0)),
    (θ_run (Cert.KernelIdeal.defs (F := Ideal)) _ _).mono (fun r h => h.1) (Cert.KernelIdeal.Hand.run m g),
    (θ_run (Cert.ReferenceIdeal.defs (F := Ideal)) _ _).mono
      (fun r h c => ⟨(h c).1.trans ((Cert.ReferenceIdeal.Hand.result_eq m' c).trans (congrArg Cert.Spiral.spiral (hm c))), (h c).2⟩)
      (Cert.ReferenceIdeal.Value.run m' g')⟩

/-- The five claims together. -/
theorem claim : Cert.Claim := ⟨Cert.Kernel.Gen.facts, Cert.KernelIdeal.Gen.facts, Cert.ReferenceIdeal.Gen.facts,
  frame_kernel, frame_kernel_ideal, frame_reference, trivial, same_result⟩

end Cert.Proof

end
